-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_history [hPre_zero_history : Cert.Pre_zero_history.Facts] (m : (ℓ : Loc Cert.KernelIdeal.nD Cert.KernelIdeal.τ Cert.KernelIdeal.sig) → Buf (Elt Ideal) ℓ) : Prop :=
  ∀ c : Dev Cert.KernelIdeal.nD,
    (Cert.Pre_zero_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_history [hPre_zero_history : Cert.Pre_zero_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_zero_history [hKernelIdeal : Cert.KernelIdeal.Facts] [hPre_zero_history : Cert.Pre_zero_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_zero_history [hReferenceIdeal : Cert.ReferenceIdeal.Facts] [hPre_zero_history : Cert.Pre_zero_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "half_momentum" .f32 0x3D4CCCCD#32 ((1 / 20 : ℝ) : EReal)

def algebraic_KernelIdeal_ReferenceIdeal_pre_zero_history [hKernelIdeal : Cert.KernelIdeal.Facts] [hReferenceIdeal : Cert.ReferenceIdeal.Facts] [hPre_zero_history : Cert.Pre_zero_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_zero_history : Cert.Pre_zero_history.Facts),
    quiescent_Kernel (hKernel := hKernel)
    ∧ quiescent_KernelIdeal (hKernelIdeal := hKernelIdeal)
    ∧ quiescent_KernelIdeal_pre_zero_history (hKernelIdeal := hKernelIdeal) (hPre_zero_history := hPre_zero_history)
    ∧ quiescent_ReferenceIdeal (hReferenceIdeal := hReferenceIdeal)
    ∧ quiescent_ReferenceIdeal_pre_zero_history (hReferenceIdeal := hReferenceIdeal) (hPre_zero_history := hPre_zero_history)
    ∧ preserves_Kernel_KernelIdeal
    ∧ algebraic_KernelIdeal_ReferenceIdeal_pre_zero_history (hKernelIdeal := hKernelIdeal) (hReferenceIdeal := hReferenceIdeal) (hPre_zero_history := hPre_zero_history)
-- ==== Pre_zero_history.lean ====
abbrev S32x32x128x128 : Shape := ⟨4, ![32, 32, 128, 128]⟩
abbrev S32x128x128x16 : Shape := ⟨4, ![32, 128, 128, 16]⟩
abbrev S_ : Shape := ⟨0, ![]⟩

class Facts : Prop where
  bcast_S_S32x128x128x16 : S_.BroadcastsInDim S32x128x128x16 (![] : Fin 0 → Fin S32x128x128x16.rank)
  reducesTo_S32x128x128x16_S_d0_1_2_3 : S32x128x128x16.ReducesTo [0, 1, 2, 3] S_
  h_S_ : 0 < S_.numel

variable [Facts]

def fn {F : FTy → Type} [FloatOps F] (main_arg0 : FVec F S32x32x128x128 .f32) (main_arg1 : FVec F S32x128x128x16 .f32) : IVec S_ 1 :=
  let main_cst : FVec F S_ .f32 := constant S_ .f32 0x00000000#32
  let main_v0 : FVec F S32x128x128x16 .f32 := broadcastInDim S32x128x128x16 ![] bcast_S_S32x128x128x16 main_cst
  let main_v1 : IVec S32x128x128x16 1 := cmpf .oeq main_arg1 main_v0
  let main_c : IVec S_ 1 := constantI S_ 1 1#1
  let main_v2 : IVec S_ 1 := (fun x v => Host.reduce IntOp.andi x v reducesTo_S32x128x128x16_S_d0_1_2_3 h_S_) main_v1 main_c
  main_v2
-- ==== Kernel.lean ====
abbrev S32x32x128x128 : Shape := ⟨4, ![32, 32, 128, 128]⟩
abbrev S32x128x128x16 : Shape := ⟨4, ![32, 128, 128, 16]⟩
abbrev S32x128x16x128 : Shape := ⟨4, ![32, 128, 16, 128]⟩
abbrev S32x1x128x128 : Shape := ⟨4, ![32, 1, 128, 128]⟩
abbrev S1x128x16x128 : Shape := ⟨4, ![1, 128, 16, 128]⟩
abbrev S1x1x128x128 : Shape := ⟨4, ![1, 1, 128, 128]⟩
abbrev S128x128 : Shape := ⟨2, ![128, 128]⟩
abbrev S1x128x1x128 : Shape := ⟨4, ![1, 128, 1, 128]⟩

abbrev nBuf : Space → Nat
  | .hbm => 4
  | .vmem => 4
  | .smem => 0
  | _ => 0

abbrev bufTy : (tb : Table) → Fin (tcTables nBuf tb) → BufTy
  | .hbm, ⟨0, _⟩ => ⟨S32x32x128x128, .f32⟩
  | .hbm, ⟨1, _⟩ => ⟨S32x128x128x16, .f32⟩
  | .hbm, ⟨2, _⟩ => ⟨S32x128x16x128, .f32⟩
  | .hbm, ⟨3, _⟩ => ⟨S32x128x128x16, .f32⟩
  | .local _ .vmem, ⟨0, _⟩ => ⟨S32x1x128x128, .f32⟩
  | .local _ .vmem, ⟨1, _⟩ => ⟨S32x1x128x128, .f32⟩
  | .local _ .vmem, ⟨2, _⟩ => ⟨S1x128x16x128, .f32⟩
  | .local _ .vmem, ⟨3, _⟩ => ⟨S1x128x16x128, .f32⟩
  | _, _ => ⟨S32x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "half_momentum" => some ((1 / 20 : ℝ) : EReal)
  | _ => none
-- ==== ReferenceIdeal.lean ====
abbrev S32x32x128x128 : Shape := ⟨4, ![32, 32, 128, 128]⟩
abbrev S32x128x128x16 : Shape := ⟨4, ![32, 128, 128, 16]⟩
abbrev S_ : Shape := ⟨0, ![]⟩
abbrev S16 : Shape := ⟨1, ![16]⟩
abbrev S32x32x128x128x1 : Shape := ⟨5, ![32, 32, 128, 128, 1]⟩
abbrev S1x1x1x1x16 : Shape := ⟨5, ![1, 1, 1, 1, 16]⟩
abbrev S32x32x128x128x16 : Shape := ⟨5, ![32, 32, 128, 128, 16]⟩
abbrev S32x128x128 : Shape := ⟨3, ![32, 128, 128]⟩
abbrev S32x128x128x1 : Shape := ⟨4, ![32, 128, 128, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x32x128x128, .f32⟩
  | .hbm, ⟨1, _⟩ => ⟨S32x128x128x16, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S32x32x128x128x1, .f32⟩
  | .hbm, ⟨21, _⟩ => ⟨S1x1x1x1x16, .f32⟩
  | .hbm, ⟨22, _⟩ => ⟨S32x32x128x128x16, .f32⟩
  | .hbm, ⟨23, _⟩ => ⟨S32x32x128x128x16, .f32⟩
  | .hbm, ⟨24, _⟩ => ⟨S32x32x128x128x16, .f32⟩
  | .hbm, ⟨25, _⟩ => ⟨S_, .f32⟩
  | .hbm, ⟨26, _⟩ => ⟨S_, .f32⟩
  | .hbm, ⟨27, _⟩ => ⟨S32x32x128x128x16, .f32⟩
  | .hbm, ⟨28, _⟩ => ⟨S32x32x128x128x16, .f32⟩
  | .hbm, ⟨29, _⟩ => ⟨S_, .f32⟩
  | .hbm, ⟨30, _⟩ => ⟨S32x32x128x128x16, .f32⟩
  | .hbm, ⟨31, _⟩ => ⟨S32x32x128x128x16, .f32⟩
  | .hbm, ⟨32, _⟩ => ⟨S32x32x128x128x16, .f32⟩
  | .hbm, ⟨33, _⟩ => ⟨S32x32x128x128x16, .f32⟩
  | .hbm, ⟨34, _⟩ => ⟨S_, .f32⟩
  | .hbm, ⟨35, _⟩ => ⟨S32x32x128x128x16, .f32⟩
  | .hbm, ⟨36, _⟩ => ⟨S32x32x128x128x16, .f32⟩
  | .hbm, ⟨37, _⟩ => ⟨S_, .f32⟩
  | .hbm, ⟨38, _⟩ => ⟨S32x32x128x128x16, .f32⟩
  | .hbm, ⟨39, _⟩ => ⟨S32x32x128x128x16, .f32⟩
  | .hbm, ⟨40, _⟩ => ⟨S_, .f32⟩
  | .hbm, ⟨41, _⟩ => ⟨S_, .f32⟩
  | .hbm, ⟨42, _⟩ => ⟨S32x32x128x128x16, .f32⟩
  | .hbm, ⟨43, _⟩ => ⟨S32x32x128x128x16, .f32⟩
  | .hbm, ⟨44, _⟩ => ⟨S_, .f32⟩
  | .hbm, ⟨45, _⟩ => ⟨S32x32x128x128x16, .f32⟩
  | .hbm, ⟨46, _⟩ => ⟨S32x32x128x128x16, .f32⟩
  | .hbm, ⟨47, _⟩ => ⟨S32x32x128x128x16, .f32⟩
  | .hbm, ⟨48, _⟩ => ⟨S32x32x128x128x16, .f32⟩
  | .hbm, ⟨49, _⟩ => ⟨S_, .f32⟩
  | .hbm, ⟨50, _⟩ => ⟨S32x32x128x128x16, .f32⟩
  | .hbm, ⟨51, _⟩ => ⟨S32x32x128x128x16, .f32⟩
  | .hbm, ⟨52, _⟩ => ⟨S_, .f32⟩
  | .hbm, ⟨53, _⟩ => ⟨S32x32x128x128x16, .f32⟩
  | .hbm, ⟨54, _⟩ => ⟨S32x32x128x128x16, .f32⟩
  | .hbm, ⟨55, _⟩ => ⟨S32x32x128x128x16, .f32⟩
  | .hbm, ⟨56, _⟩ => ⟨S_, .f32⟩
  | .hbm, ⟨57, _⟩ => ⟨S32x128x128x16, .f32⟩
  | .hbm, ⟨58, _⟩ => ⟨S_, .f32⟩
  | .hbm, ⟨59, _⟩ => ⟨S_, .f32⟩
  | .hbm, ⟨60, _⟩ => ⟨S32x128x128x16, .f32⟩
  | .hbm, ⟨61, _⟩ => ⟨S32x128x128x16, .f32⟩
  | .hbm, ⟨62, _⟩ => ⟨S32x128x128x16, .f32⟩
  | .hbm, ⟨63, _⟩ => ⟨S32x128x128x16, .f32⟩
  | .hbm, ⟨64, _⟩ => ⟨S32x128x128x16, .f32⟩
  | .hbm, ⟨65, _⟩ => ⟨S_, .f32⟩
  | .hbm, ⟨66, _⟩ => ⟨S32x128x128x16, .f32⟩
  | .hbm, ⟨67, _⟩ => ⟨S32x128x128x16, .f32⟩
  | .hbm, ⟨68, _⟩ => ⟨S_, .f32⟩
  | .hbm, ⟨69, _⟩ => ⟨S32x128x128, .f32⟩
  | .hbm, ⟨70, _⟩ => ⟨S32x128x128x1, .f32⟩
  | .hbm, ⟨71, _⟩ => ⟨S32x128x128x16, .f32⟩
  | .hbm, ⟨72, _⟩ => ⟨S32x128x128x16, .f32⟩
  | _, _ => ⟨S32x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_cst_3 : Ref sig .tc := ⟨.hbm, 9, rfl⟩
abbrev main_cst_4 : Ref sig .tc := ⟨.hbm, 10, rfl⟩
abbrev main_v3 : Ref sig .tc := ⟨.hbm, 11, rfl⟩
abbrev main_v4 : Ref sig .tc := ⟨.hbm, 12, rfl⟩
abbrev main_cst_5 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_14 : Ref sig .tc := ⟨.hbm, 56, rfl⟩
abbrev main_v39 : Ref sig .tc := ⟨.hbm, 57, rfl⟩
abbrev main_cst_15 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_16 : Ref sig .tc := ⟨.hbm, 65, rfl⟩
abbrev main_v46 : Ref sig .tc := ⟨.hbm, 66, rfl⟩
abbrev main_v47 : Ref sig .tc := ⟨.hbm, 67, rfl⟩
abbrev main_cst_17 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.Step.lean ====
/- The smooth step of the histogram on the extended reals: the kernel writes it with `tanh`, the reference with the
   logistic function. Both are the same function of the sample, the infinities included. -/
module

public import Idealize.ShloMosaic.PureOps.Ideal
public import Idealize.ShloMosaic.PureOps.Ideal.Laws

@[expose] public section

noncomputable section

namespace Cert.SoftHist

open Idealize.ShloMosaic

/-- The smooth step at the sample `x`, `tanh (50 x - c)`, as a real number: it is finite at every `x`. -/
def step (x : EReal) (c : ℝ) : ℝ := (Ideal.tanh (((50 : ℝ) : EReal) * x - (c : EReal))).toReal

theorem step_bot (c : ℝ) : step ⊥ c = -1 := by
  simp [step, EReal.coe_mul_bot_of_pos (show (0 : ℝ) < 50 by norm_num)]

theorem step_top (c : ℝ) : step ⊤ c = 1 := by
  simp [step, EReal.coe_mul_top_of_pos (show (0 : ℝ) < 50 by norm_num)]

theorem step_coe (r c : ℝ) : step (r : EReal) c = Real.tanh (50 * r - c) := by
  rw [step, ← EReal.coe_mul, ← EReal.coe_sub, Ideal.tanh_coe, EReal.toReal_coe]

/-- The kernel's step is the real number `step x c`. -/
theorem tanh_eq_step (x : EReal) (c : ℝ) :
    Ideal.tanh (((50 : ℝ) : EReal) * x - (c : EReal)) = (step x c : EReal) := by
  induction x with
  | bot => rw [step_bot]; simp [EReal.coe_mul_bot_of_pos (show (0 : ℝ) < 50 by norm_num)]
  | top => rw [step_top]; simp [EReal.coe_mul_top_of_pos (show (0 : ℝ) < 50 by norm_num)]
  | coe r => rw [step_coe, ← EReal.coe_mul, ← EReal.coe_sub, Ideal.tanh_coe]

/-- The step lies between `-1` and `1`. -/
theorem abs_step_le (x : EReal) (c : ℝ) : |step x c| ≤ 1 := by
  induction x with
  | bot => rw [step_bot]; norm_num
  | top => rw [step_top]; norm_num
  | coe r =>
    rw [step_coe, abs_le]
    exact ⟨(Real.neg_one_lt_tanh _).le, (Real.tanh_lt_one _).le⟩

/-- The logistic function at `2 y` is `(1 + tanh y) / 2`. -/
theorem logistic_eq_tanh (y : ℝ) : (1 + Real.exp (-(2 * y)))⁻¹ = (1 + Real.tanh y) / 2 := by
  have h1 : Real.exp (-(2 * y)) = Real.exp (-y) * Real.exp (-y) := by rw [← Real.exp_add]; ring_nf
  have h2 : Real.exp y * Real.exp (-y) = 1 := by rw [← Real.exp_add]; simp
  have p1 := Real.exp_pos y
  have p2 := Real.exp_pos (-y)
  have h3 : (1 : ℝ) + Real.exp (-y) * Real.exp (-y) ≠ 0 := by positivity
  rw [h1, Real.tanh_eq_sinh_div_cosh, Real.sinh_eq, Real.cosh_eq]
  field_simp
  nlinarith

/-- The quotient `1 / (1 + exp (-z))` at the extended reals, at a real `z`. -/
theorem div_one_exp_coe (z : ℝ) :
    Ideal.div (((1 : ℝ)) : EReal) (((1 : ℝ) : EReal) + Ideal.exp (-(z : EReal))) = (((1 + Real.exp (-z))⁻¹ : ℝ) : EReal) := by
  have h : (1 : ℝ) + Real.exp (-z) ≠ 0 := by positivity
  rw [← EReal.coe_neg, Ideal.exp_coe, ← EReal.coe_add, Ideal.div, if_neg (by exact_mod_cast h), ← EReal.coe_inv,
    ← EReal.coe_mul, one_mul]

/-- The logistic function of `100 z`, at an extended real `z` that is the sample shifted by a real: half of one plus
    the step. -/
theorem logistic_eq_step (x : EReal) (e : ℝ) (z : EReal) (hz : z = x - (e : EReal)) :
    Ideal.div ((1 : ℝ) : EReal) (((1 : ℝ) : EReal) + Ideal.exp (-(((100 : ℝ) : EReal) * z)))
      = (((1 + step x (50 * e)) / 2 : ℝ) : EReal) := by
  subst hz
  induction x with
  | bot =>
    rw [step_bot, EReal.bot_sub, EReal.coe_mul_bot_of_pos (by norm_num), EReal.neg_bot, Ideal.exp_top,
      EReal.coe_add_top, Ideal.div, if_neg (by simp)]
    simp
  | top =>
    rw [step_top, EReal.top_sub_coe, EReal.coe_mul_top_of_pos (by norm_num), EReal.neg_top, Ideal.exp_bot,
      add_zero, Ideal.div, if_neg (by norm_num), ← EReal.coe_inv, ← EReal.coe_mul]
    norm_num
  | coe r =>
    rw [step_coe, ← EReal.coe_sub, ← EReal.coe_mul, div_one_exp_coe,
      show (100 : ℝ) * (r - e) = 2 * (50 * r - 50 * e) by ring, logistic_eq_tanh]

end Cert.SoftHist

end
-- ==== Proof.Hist.lean ====
/- The normalised histogram of one pixel as a real number: the function both programs are shown to compute. -/
module

public import proofs.«01_k».proof.Proof.Step

@[expose] public section

noncomputable section

namespace Cert.SoftHist

/-- The offset of the `k`-th edge between bins, `50 · (-1/5 + 51/80 · k)`: the step at this offset is the edge's. -/
def offset (k : ℕ) : ℝ := -10 + 255 / 8 * k

/-- The steps of the samples `f b` at the `k`-th edge, summed over the batch. -/
def edge (f : Fin 32 → EReal) (k : ℕ) : ℝ := ∑ b : Fin 32, step (f b) (offset k)

/-- One bin before the normalisation: the momentum times the batch's soft count of the bin, and one. -/
def bin (f : Fin 32 → EReal) (k : ℕ) : ℝ := 1 / 20 * edge f k - 1 / 20 * edge f (k + 1) + 1

/-- The sum of the bins, which telescopes to the outermost edges. -/
def total (f : Fin 32 → EReal) : ℝ := 16 + 1 / 20 * edge f 0 - 1 / 20 * edge f 16

/-- The sixteen bins add up to `total`. -/
theorem sum_bin (f : Fin 32 → EReal) : ∑ k : Fin 16, bin f k = total f := by
  have h : ∀ n : ℕ, ∑ k ∈ Finset.range n, bin f k = n + 1 / 20 * edge f 0 - 1 / 20 * edge f n := by
    intro n
    induction n with
    | zero => simp
    | succ n ih => rw [Finset.sum_range_succ, ih, bin]; push_cast; ring
  rw [Fin.sum_univ_eq_sum_range (fun k => bin f k) 16, h 16, total]
  norm_num

/-- An edge's sum is at most the batch size in absolute value. -/
theorem abs_edge_le (f : Fin 32 → EReal) (k : ℕ) : |edge f k| ≤ 32 := by
  refine (Finset.abs_sum_le_sum_abs _ _).trans ?_
  refine (Finset.sum_le_sum fun b _ => abs_step_le (f b) (offset k)).trans ?_
  simp

/-- The sum of the bins is positive, so the normalisation divides by a nonzero number. -/
theorem total_pos (f : Fin 32 → EReal) : 0 < total f := by
  have h0 := (abs_le.mp (abs_edge_le f 0)).1
  have h1 := (abs_le.mp (abs_edge_le f 16)).2
  rw [total]
  linarith

/-- One bin of the normalised histogram. -/
def hist (f : Fin 32 → EReal) (k : ℕ) : ℝ := bin f k / total f

end Cert.SoftHist

end
-- ==== Proof.Block.lean ====
/- What one block of the kernel computes: the body's values are named by a few definitions over all sixteen bins, and
   read at an index they are the normalised histogram of the pixel. -/
module

public import proofs.«01_k».proof.Proof.Gen.KernelIdeal.Frame
public import proofs.«01_k».proof.Proof.Hist
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Block

open Idealize.ShloMosaic Idealize.SL.Sem
open Cert.KernelIdeal Cert.KernelIdeal.Gen Cert.SoftHist

/-! ## The body's values, named -/

/-- Batch row `b` of a block, as the body loads it. -/
def row (x0 : Vec Ideal S32x1x128x128 .f32) (b : ℕ) (hb : b < 32) : Vec Ideal S1x1x128x128 .f32 :=
  View.ld x0 (Rect.unit (s := S32x1x128x128) ![b, 0, 0, 0] S1x1x128x128.size
    (fun a => by fin_cases a <;> simp [S32x1x128x128, S1x1x128x128]; omega))

/-- The steps of one batch row at the offset whose word is `w`. -/
def steps (w : BitVec 32) (v : Vec Ideal S1x1x128x128 .f32) : FVec Ideal S128x128 .f32 :=
  tanh (subf (mulf (broadcast S128x128 (Scalar.ofBits .f32 0x42480000#32)) (shapeCast S128x128 v shapeCasts_S1x1x128x128_S128x128))
    (broadcast S128x128 (Scalar.ofBits .f32 w)))

/-- The steps of the batch rows `0 … n` added up in the body's order. -/
def acc (w : BitVec 32) (x0 : Vec Ideal S32x1x128x128 .f32) : (n : ℕ) → n < 32 → FVec Ideal S128x128 .f32
  | 0, h => steps w (row x0 0 h)
  | n + 1, h => addf (acc w x0 n (by omega)) (steps w (row x0 (n + 1) h))

/-- The batch sum of the steps, times half the momentum. -/
def scaled (w : BitVec 32) (x0 : Vec Ideal S32x1x128x128 .f32) : FVec Ideal S128x128 .f32 :=
  mulf (broadcast S128x128 (Named.named κ "half_momentum" 0x3D4CCCCD#32)) (acc w x0 31 (by omega))

/-- The words of the seventeen offsets. -/
def offsetWord : Fin 17 → BitVec 32 :=
  ![0xC1200000#32, 0x41AF0000#32, 0x42570000#32, 0x42AB4000#32, 0x42EB0000#32, 0x43156000#32, 0x43354000#32,
    0x43552000#32, 0x43750000#32, 0x438A7000#32, 0x439A6000#32, 0x43AA5000#32, 0x43BA4000#32, 0x43CA3000#32,
    0x43DA2000#32, 0x43EA1000#32, 0x43FA0000#32]

/-- The reciprocal of the sum of the bins. -/
def inv (x0 : Vec Ideal S32x1x128x128 .f32) : FVec Ideal S128x128 .f32 :=
  divf (broadcast S128x128 (Scalar.ofBits .f32 0x3F800000#32))
    (subf (addf (broadcast S128x128 (Scalar.ofBits .f32 0x41800000#32)) (scaled (offsetWord 0) x0)) (scaled (offsetWord 16) x0))

/-- What the body stores for bin `k`. -/
def cell (x0 : Vec Ideal S32x1x128x128 .f32) (k : Fin 16) : Vec Ideal S1x128x1x128 .f32 :=
  shapeCast S1x128x1x128 (mulf (addf (subf (scaled (offsetWord k.castSucc) x0) (scaled (offsetWord k.succ) x0))
    (broadcast S128x128 (Scalar.ofBits .f32 0x3F800000#32))) (inv x0)) shapeCasts_S128x128_S1x128x1x128

/-- The body's stores, the last first: bin `15 - r` for `r = 0 … 15`. -/
theorem out_eq (x0 : Vec Ideal S32x1x128x128 .f32) :
    out0_1 x0 = View.canon (List.ofFn fun r : Fin 16 =>
      (⟨Rect.unit (s := S1x128x16x128) ![0, 0, 15 - r.val, 0] S1x128x1x128.size
        (fun a => by fin_cases a <;> simp [S1x128x16x128, S1x128x1x128]; omega), cell x0 r.rev⟩ :
        View.Piece (Elt Ideal) S1x128x16x128 .f32)) := rfl

/-! ## The values read at an index -/

/-- The words of the offsets denote the offsets. -/
theorem ofBits_offset (k : Fin 17) : Ideal.ofBits .f32 (offsetWord k) = (offset k : EReal) := by
  fin_cases k <;> simp [offsetWord, offset, Ideal.ofBits, Ideal.ieee, -EReal.coe_mul, -EReal.coe_add, -EReal.coe_neg] <;>
    norm_num

theorem ofBits_fifty : Ideal.ofBits .f32 0x42480000#32 = ((50 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

/-- The samples of a block at one pixel. -/
def column (x0 : Vec Ideal S32x1x128x128 .f32) (i j : Fin 128) : Fin 32 → EReal := fun b => x0 (ix4 b (0 : Fin 1) i j)

/-- The steps of batch row `b` at a pixel: the step of the sample there. -/
theorem steps_apply (w : BitVec 32) (o : ℝ) (hw : Ideal.ofBits .f32 w = (o : EReal)) (x0 : Vec Ideal S32x1x128x128 .f32)
    (b : ℕ) (hb : b < 32) (i j : Fin 128) :
    steps w (row x0 b hb) (ix2 i j) = (step (column x0 i j ⟨b, hb⟩) o : EReal) := by
  rw [← tanh_eq_step, ← hw, ← ofBits_fifty]
  pointwise [steps, row, column]

/-- The accumulated steps at a pixel: the sum of the steps of the samples there. -/
theorem acc_apply (w : BitVec 32) (o : ℝ) (hw : Ideal.ofBits .f32 w = (o : EReal)) (x0 : Vec Ideal S32x1x128x128 .f32)
    (i j : Fin 128) : ∀ (n : ℕ) (hn : n < 32),
    acc w x0 n hn (ix2 i j) = ((∑ b : Fin (n + 1), step (column x0 i j ⟨b.val, by omega⟩) o : ℝ) : EReal)
  | 0, hn => by
    rw [acc, steps_apply w o hw]
    simp
  | n + 1, hn => by
    rw [Fin.sum_univ_castSucc, EReal.coe_add]
    refine (congrArg₂ (· + ·) (acc_apply w o hw x0 i j n (by omega)) (steps_apply w o hw x0 (n + 1) hn i j) : _)

/-- The scaled batch sum at a pixel. -/
theorem scaled_apply (k : Fin 17) (x0 : Vec Ideal S32x1x128x128 .f32) (i j : Fin 128) :
    scaled (offsetWord k) x0 (ix2 i j) = ((1 / 20 * edge (column x0 i j) k : ℝ) : EReal) := by
  rw [EReal.coe_mul]
  exact congrArg₂ (· * ·) rfl (acc_apply _ _ (ofBits_offset k) x0 i j 31 (by omega))

/-- The reciprocal at a pixel: that of the sum of the bins, which is not zero. -/
theorem inv_apply (x0 : Vec Ideal S32x1x128x128 .f32) (i j : Fin 128) :
    inv x0 (ix2 i j) = (((total (column x0 i j))⁻¹ : ℝ) : EReal) := by
  have h : inv x0 (ix2 i j) = Ideal.div (Ideal.ofBits .f32 0x3F800000#32)
      (Ideal.ofBits .f32 0x41800000#32 + scaled (offsetWord 0) x0 (ix2 i j) - scaled (offsetWord 16) x0 (ix2 i j)) := rfl
  have ht : (16 + 1 / 20 * edge (column x0 i j) ((0 : Fin 17) : ℕ) - 1 / 20 * edge (column x0 i j) ((16 : Fin 17) : ℕ) : ℝ)
      = total (column x0 i j) := rfl
  rw [h, scaled_apply, scaled_apply, ofBits_one, ofBits_sixteen, ← EReal.coe_add, ← EReal.coe_sub, ht, Ideal.div,
    if_neg (by exact_mod_cast (total_pos _).ne'), ← EReal.coe_inv, ← EReal.coe_mul, one_mul]

/-- What the body stores for bin `k`, at a pixel: the bin of the normalised histogram there. -/
theorem cell_apply (x0 : Vec Ideal S32x1x128x128 .f32) (k : Fin 16) (i j : Fin 128) :
    cell x0 k (ix4 (0 : Fin 1) i (0 : Fin 1) j) = (hist (column x0 i j) k : EReal) := by
  have h : cell x0 k (ix4 (0 : Fin 1) i (0 : Fin 1) j)
      = (scaled (offsetWord k.castSucc) x0 (ix2 i j) - scaled (offsetWord k.succ) x0 (ix2 i j)
          + Ideal.ofBits .f32 0x3F800000#32) * inv x0 (ix2 i j) := by
    pointwise [cell]
  rw [h, scaled_apply, scaled_apply, inv_apply, ofBits_one, ← EReal.coe_sub, ← EReal.coe_add, ← EReal.coe_mul, hist,
    div_eq_mul_inv]
  rfl

/-- THE BLOCK: what the body leaves for bin `k` at a pixel is the normalised histogram of the block's samples there. -/
theorem out_apply (x0 : Vec Ideal S32x1x128x128 .f32) (k : Fin 16) (i j : Fin 128) :
    out0_1 x0 (ix4 (0 : Fin 1) i k j) = (hist (column x0 i j) k : EReal) := by
  rw [out_eq]
  refine View.canon_ofFn_unit_eq_of_forall _ _ _ _ _ _ ⟨k.rev, ?_⟩ ?_
  · intro a
    fin_cases a <;> simp [Fin.rev, ix4, S1x128x1x128] <;> omega
  · intro r x hx
    obtain ⟨a, b, c, d, rfl⟩ : ∃ (a : Fin 1) (b : Fin 128) (c : Fin 1) (d : Fin 128), x = ix4 a b c d :=
      ⟨x 0, x 1, x 2, x 3, eq_ix4 x⟩
    have h1 : (i : ℕ) = 0 + b := hx 1
    have h2 : (k : ℕ) = (15 - r) + c := hx 2
    have h3 : (j : ℕ) = 0 + d := hx 3
    obtain rfl : a = 0 := Subsingleton.elim _ _
    obtain rfl : c = 0 := Subsingleton.elim _ _
    obtain rfl : b = i := Fin.ext (by omega)
    obtain rfl : d = j := Fin.ext (by omega)
    obtain rfl : k = r.rev := Fin.ext (by rw [Fin.val_rev, h2, Fin.val_zero]; omega)
    exact cell_apply x0 r.rev b d

end Cert.KernelIdeal.Block

end
-- ==== Proof.Array.lean ====
/- What the kernel's arrays hold after the run: the region's result, block by block, and its transpose, which the kernel
   returns. -/
module

public import proofs.«01_k».proof.Proof.Block
public import Idealize.ShloMosaic.Lib.Claim

@[expose] public section

set_option maxRecDepth 16384

noncomputable section

namespace Cert.KernelIdeal.Array

open Idealize.ShloMosaic Idealize.ShloMosaic.TcCoe Idealize.SL.Sem
open Cert.KernelIdeal Cert.KernelIdeal.Gen Cert.SoftHist

variable (m : (ℓ : Loc nD τ sig) → Buf (Elt Ideal) ℓ) (ρ : Dev nD → PrngReg)

/-- The samples of a pixel of the argument array: batch member by batch member. -/
def pixel (x : Vec Ideal S32x32x128x128 .f32) (c : Fin 32) (i j : Fin 128) : Fin 32 → EReal := fun b => x (ix4 b c i j)

/-- The region's result: channel, row, bin, column. -/
def blocks (x : Vec Ideal S32x32x128x128 .f32) : Vec Ideal S32x128x16x128 .f32 :=
  fun y => (hist (pixel x (y 0) (y 1) (y 3)) (y 2 : ℕ) : EReal)

/-- The kernel's result: channel, row, column, bin. -/
def result (x : Vec Ideal S32x32x128x128 .f32) : Vec Ideal S32x128x128x16 .f32 :=
  fun y => (hist (pixel x (y 0) (y 1) (y 2)) (y 3 : ℕ) : EReal)

/-- The windows' block indices at a point: the point's channel. -/
theorem index_in (t : Fin cfg0.N) : (cfg0.win 0).index t = ![0, (grid0.coords t 0).val, 0, 0] :=
  (by decide +kernel : ∀ t : Fin cfg0.N, (cfg0.win 0).index t = ![0, (grid0.coords t 0).val, 0, 0]) t
theorem index_out (t : Fin cfg0.N) : (cfg0.win 1).index t = ![(grid0.coords t 0).val, 0, 0, 0] :=
  (by decide +kernel : ∀ t : Fin cfg0.N, (cfg0.win 1).index t = ![(grid0.coords t 0).val, 0, 0, 0]) t

/-- The samples of a pixel in the block of a point: those of the argument array in the point's channel. -/
theorem column_block (c : Dev nD) (t : Fin cfg0.N) (i j : Fin 128) :
    Block.column (iblk m c 0 t) i j = pixel (m ((c : Thread nD τ).loc main_arg0)) (grid0.coords t 0) i j := by
  funext b
  show iblk m c 0 t (ix4 b (0 : Fin 1) i j) = m ((c : Thread nD τ).loc main_arg0) (ix4 b (grid0.coords t 0) i j)
  blk_ext [iblk, V, index_in t]

/-- Where an element of the result's block at a point lies in the array. -/
theorem place (t : Fin cfg0.N) (i : Fin 128) (k : Fin 16) (j : Fin 128) :
    ((cfg0.win 1).blk t).view.emb (ix4 (0 : Fin 1) i k j) = (ix4 (grid0.coords t 0) i k j : S32x128x16x128.Idx) := by
  blk_ext [index_out t]

/-- The region's result array after the run. -/
theorem final (c : Dev nD) : (dats m 0 c).arrAt 1 cfg0.N = blocks (m ((c : Thread nD τ).loc main_arg0)) := by
  refine (dats m 0 c).arrAt_eq_of_covers 1 _ (by decide +kernel) fun t hf y => ?_
  blk_simp
  rw [after0_1]
  obtain ⟨a, i, k, j, rfl⟩ : ∃ (a : Fin 1) (i : Fin 128) (k : Fin 16) (j : Fin 128), y = ix4 a i k j :=
    ⟨y 0, y 1, y 2, y 3, eq_ix4 y⟩
  obtain rfl : a = 0 := Subsingleton.elim _ _
  refine (Block.out_apply (iblk m c 0 t) k i j).trans ?_
  rw [column_block]
  exact (congrArg (blocks (m ((c : Thread nD τ).loc main_arg0))) (place t i k j)).symm

/-- The transpose that follows the region gives the kernel's result. -/
theorem transpose_blocks (x : Vec Ideal S32x32x128x128 .f32) :
    transpose S32x128x128x16 [0, 1, 3, 2] (blocks x) transposes_S32x128x16x128_S32x128x128x16_0_1_3_2 = result x := by
  funext y
  pointwise [blocks, result]

/-- The buffer the kernel returns, after the run. -/
theorem after_main_v1 (c : Dev nD) :
    Pipeline.afterTail₀ cfgs (dats m) 0 (V0 m) [hostOps1] c main_v1 = result (m ((c : Thread nD τ).loc main_arg0)) := by
  have h : Pipeline.withArrays (cfgs 0).spec c (V0 m c) (fun w => (dats m 0 c).arrAt w (cfgs 0).N)
      (Proc.devRef .tc main_v0) = blocks (m ((c : Thread nD τ).loc main_arg0)) :=
    (Pipeline.withArrays_arr spec0 (by decide) c (V0 m c) (fun w => (dats m 0 c).arrAt w (cfgs 0).N) 1).trans (final m c)
  unfold Pipeline.afterTail₀
  rw [show (List.flatten [(hostOps1 : List (HloOp τ sig (Elt Ideal)))]) = hostOps1 from rfl, StableHlo.after_cons, StableHlo.after_nil,
    StableHlo.unary_result]
  rw [h]
  exact transpose_blocks _

/-- THE KERNEL'S RUN: the buffer it returns holds the normalised histogram of every pixel, the arguments are unchanged. -/
theorem run : θ_run defs (onTc (τ := τ) (main (F := Ideal))) ⟨m, fun _ => 0, ρ⟩ (fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 (Pipeline.mem_restRefs_of main_v1 (by decide) (by decide))).trans (after_main_v1 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Array

end
-- ==== Proof.Reference.lean ====
/- What the reference computes: its result array, read at an index, is the normalised histogram of the pixel. -/
module

public import proofs.«01_k».proof.Proof.Gen.ReferenceIdeal.Run
public import proofs.«01_k».proof.Proof.Hist
public import Idealize.ShloMosaic.Lib.Pointwise

@[expose] public section

set_option maxRecDepth 16384

noncomputable section

namespace Cert.ReferenceIdeal.Histogram

open Idealize.ShloMosaic Idealize.SL.Sem
open Cert.ReferenceIdeal Cert.SoftHist

/-! ## The reference's scalars -/

/-- The lower end of the histogram's range. -/
def minV : EReal := Ideal.div (Ideal.ofBits .f32 0xBF800000#32) (Ideal.ofBits .f32 0x40A00000#32)

/-- The width of a bin. -/
def delta : EReal := Ideal.div (Ideal.ofBits .f32 0x41200000#32 - minV) (Ideal.ofBits .f32 0x41800000#32)

/-- The centre of bin `k`. -/
def centre (k : ℕ) : EReal :=
  minV + delta * (FloatOps.sitofp (F := Ideal) .f32 (BitVec.ofNat 32 k) + Ideal.ofBits .f32 0x3F000000#32)

/-- Half the width of a bin. -/
def halfWidth : EReal := Ideal.div delta (Ideal.ofBits .f32 0x40000000#32)

/-- The logistic function of `100 z`. -/
def logistic (z : EReal) : EReal := Ideal.div 1 (1 + Ideal.exp (-(Ideal.ofBits .f32 0x42C80000#32 * z)))

/-- The soft membership of the sample `x` in bin `k`. -/
def soft (x : EReal) (k : ℕ) : EReal := logistic (x - centre k + halfWidth) - logistic (x - centre k - halfWidth)

/-- The momentum. -/
def momentum : EReal := Ideal.div 1 (Ideal.ofBits .f32 0x41200000#32)

/-- Bin `k` before the normalisation, from the running histogram's entry `g` and the samples `f`. -/
def count (g : EReal) (f : Fin 32 → EReal) (k : ℕ) : EReal :=
  (1 - momentum) * g + momentum * (∑ b : Fin 32, soft (f b) k) + 1

/-- The reference's result at an index, in these scalars. -/
theorem read (m : (ℓ : Loc nD τ sig) → Buf (Elt Ideal) ℓ) (c : Dev nD) (a : Fin 32) (i j : Fin 128) (k : Fin 16) :
    Value.res_out0 m c (ix4 a i j k)
      = Ideal.div (count (m ((c.tc : Thread nD τ).loc main_arg1) (ix4 a i j k))
            (fun b => m ((c.tc : Thread nD τ).loc main_arg0) (ix4 b a i j)) k)
          (∑ k' : Fin 16, count (m ((c.tc : Thread nD τ).loc main_arg1) (ix4 a i j k'))
            (fun b => m ((c.tc : Thread nD τ).loc main_arg0) (ix4 b a i j)) k') := by
  pointwise [Value.res_main_v51, count, soft, logistic, centre, halfWidth, delta, minV, momentum]

/-! ## Their values -/

theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem sum_real {n : ℕ} (f : Fin n → ℝ) : ∑ b, (f b : EReal) = ((∑ b, f b : ℝ) : EReal) :=
  (map_sum (⟨⟨Real.toEReal, EReal.coe_zero⟩, EReal.coe_add⟩ : ℝ →+ EReal) f Finset.univ).symm

theorem ofBits_neg_one : Ideal.ofBits .f32 0xBF800000#32 = ((-1 : ℝ) : EReal) := by
  simp [Ideal.ofBits, Ideal.ieee, -EReal.coe_mul, -EReal.coe_neg]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_hundred : Ideal.ofBits .f32 0x42C80000#32 = ((100 : ℝ) : EReal) := by
  simp [Ideal.ofBits, Ideal.ieee, -EReal.coe_mul]; norm_num

theorem minV_eq : minV = ((-(1 / 5) : ℝ) : EReal) := by
  rw [minV, ofBits_neg_one, ofBits_five, div_real _ _ (by norm_num)]; norm_num

theorem delta_eq : delta = ((51 / 80 : ℝ) : EReal) := by
  rw [delta, minV_eq, ofBits_ten, ofBits_sixteen, ← EReal.coe_sub, div_real _ _ (by norm_num)]; norm_num

theorem halfWidth_eq : halfWidth = ((51 / 160 : ℝ) : EReal) := by
  rw [halfWidth, delta_eq, ofBits_two, div_real _ _ (by norm_num)]; norm_num

theorem momentum_eq : momentum = ((1 / 10 : ℝ) : EReal) := by
  rw [momentum, ofBits_ten, ← EReal.coe_one, div_real _ _ (by norm_num)]

theorem centre_eq (k : Fin 16) : centre k = ((-(1 / 5) + 51 / 80 * (k + 1 / 2) : ℝ) : EReal) := by
  have h : FloatOps.sitofp (F := Ideal) .f32 (BitVec.ofNat 32 (k : ℕ)) = (((k : ℕ) : ℝ) : EReal) := by
    show (((BitVec.ofNat 32 (k : ℕ)).toInt : ℝ) : EReal) = _
    fin_cases k <;> simp
  rw [centre, minV_eq, delta_eq, h, ofBits_half, ← EReal.coe_add, ← EReal.coe_mul, ← EReal.coe_add]

/-- The logistic function of a shifted sample: half of one plus the step. -/
theorem logistic_shift (x : EReal) (e : ℝ) : logistic (x - (e : EReal)) = (((1 + step x (50 * e)) / 2 : ℝ) : EReal) := by
  rw [logistic, ofBits_hundred]
  exact logistic_eq_step x e _ rfl

/-- The soft membership of a sample in bin `k`: half the difference of the steps at the bin's two edges. -/
theorem soft_eq (x : EReal) (k : Fin 16) :
    soft x k = (((step x (offset k) - step x (offset (k + 1))) / 2 : ℝ) : EReal) := by
  have hu : x - centre k + halfWidth = x - ((-(1 / 5) + 51 / 80 * k : ℝ) : EReal) := by
    rw [centre_eq, halfWidth_eq]
    induction x with
    | bot => simp
    | top => rw [EReal.top_sub_coe, EReal.top_sub_coe, EReal.top_add_coe]
    | coe r => rw [← EReal.coe_sub, ← EReal.coe_add, ← EReal.coe_sub]; congr 1; ring
  have hl : x - centre k - halfWidth = x - ((-(1 / 5) + 51 / 80 * (k + 1) : ℝ) : EReal) := by
    rw [centre_eq, halfWidth_eq]
    induction x with
    | bot => simp
    | top => rw [EReal.top_sub_coe, EReal.top_sub_coe, EReal.top_sub_coe]
    | coe r => rw [← EReal.coe_sub, ← EReal.coe_sub, ← EReal.coe_sub]; congr 1; ring
  have e0 : (50 * (-(1 / 5) + 51 / 80 * k) : ℝ) = offset k := by rw [offset]; ring
  have e1 : (50 * (-(1 / 5) + 51 / 80 * (k + 1)) : ℝ) = offset (k + 1) := by rw [offset]; push_cast; ring
  rw [soft, hu, hl, logistic_shift, logistic_shift, e0, e1, ← EReal.coe_sub]
  congr 1
  ring

/-- Bin `k` before the normalisation, the running histogram being zero. -/
theorem count_eq (f : Fin 32 → EReal) (k : Fin 16) : count 0 f k = (bin f k : EReal) := by
  rw [count, mul_zero, zero_add, momentum_eq, Finset.sum_congr rfl fun b _ => soft_eq (f b) k, sum_real, ← EReal.coe_mul,
    ← EReal.coe_one, ← EReal.coe_add]
  congr 1
  rw [bin, edge, edge, ← Finset.sum_div, Finset.sum_sub_distrib]
  ring

/-- THE REFERENCE: with a running histogram of zeros its result at an index is the normalised histogram of the pixel. -/
theorem apply (m : (ℓ : Loc nD τ sig) → Buf (Elt Ideal) ℓ) (c : Dev nD)
    (hg : ∀ y, m ((c.tc : Thread nD τ).loc main_arg1) y = (0 : EReal)) (a : Fin 32) (i j : Fin 128) (k : Fin 16) :
    Value.res_out0 m c (ix4 a i j k)
      = (hist (fun b => m ((c.tc : Thread nD τ).loc main_arg0) (ix4 b a i j)) k : EReal) := by
  rw [read]
  simp only [hg, count_eq]
  rw [sum_real, sum_bin, div_real _ _ (total_pos _).ne', hist]

end Cert.ReferenceIdeal.Histogram

end
-- ==== Proof.History.lean ====
/- The precondition read: where it holds, every entry of the running histogram is zero. -/
module

public import proofs.«01_k».proof.Pre_zero_history
public import proofs.«01_k».proof.Proof.Gen.Pre_zero_history
public import Idealize.ShloMosaic.Lib.ReduceAll
public import Idealize.ShloMosaic.Lib.Pointwise

@[expose] public section

set_option maxRecDepth 16384

noncomputable section

namespace Cert.Pre_zero_history.Read

open Idealize.ShloMosaic Idealize.SL.Sem
open Cert.Pre_zero_history

/-- Where the precondition is true, the running histogram is zero at every index. -/
theorem zero (x : FVec Ideal S32x32x128x128 .f32) (g : FVec Ideal S32x128x128x16 .f32)
    (h : fn (F := Ideal) x g = fun _ => 1#1) (y : S32x128x128x16.Idx) : g y = (0 : EReal) := by
  have e := congrFun h (fun a => a.elim0)
  dsimp only [fn] at e
  have e' := Host.reduce_andi_all _ _ _ _ _ e y
  have c : BitVec.ofBool (decide ((g y : EReal) = Ideal.ofBits .f32 0x00000000#32)) = 1#1 := e'
  rw [Ideal.ofBits_zero_f32] at c
  by_contra hne
  rw [decide_eq_false hne] at c
  exact absurd c (by decide)

end Cert.Pre_zero_history.Read

end
-- ==== Proof.lean ====
/- The proof of the certificate's claims: the three programs run to the end, leave their arguments unchanged and every
   semaphore at zero; the one named constant is what its name says; and at the extended reals the kernel and the reference
   return the same array wherever the running histogram is zero.

   The modules it is assembled from:
     Proof/Step.lean       the smooth step, written with `tanh` by the kernel and with the logistic function by the reference
     Proof/Hist.lean       the normalised histogram of a pixel as a real number; its bins' sum telescopes and is positive
     Proof/Block.lean      what one block of the kernel computes
     Proof/Array.lean      what the kernel's arrays hold after the run
     Proof/Reference.lean  what the reference computes
     Proof/History.lean    the precondition, read at an index -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_zero_history
public import proofs.«01_k».proof.Proof.Array
public import proofs.«01_k».proof.Proof.Reference
public import proofs.«01_k».proof.Proof.History
public import Idealize.ShloMosaic.Lib.Quiescent

@[expose] public section

noncomputable section

namespace Cert.Proof

open Idealize.ShloMosaic Idealize.ShloMosaic.TcCoe Idealize.SL.Sem Cert.SoftHist

/-- The reference's run: its arguments are unchanged and, as it declares no semaphore, every counter ends at zero. -/
theorem reference_quiescent : Cert.quiescent_ReferenceIdeal (hReferenceIdeal := Cert.ReferenceIdeal.Gen.facts) := by
  intro m ρ _
  exact (θ_run _ _ _).mono
    (fun r h => ⟨fun c => (h c).2, sem_eq_zero_of_no_sems (by decide) r.2⟩)
    (Cert.ReferenceIdeal.Value.run (F := Ideal) m ρ)

/-- THE EQUATION: on a running histogram of zeros the kernel and the reference return the same array. -/
theorem algebraic : Cert.algebraic_KernelIdeal_ReferenceIdeal_pre_zero_history
    (hKernelIdeal := Cert.KernelIdeal.Gen.facts) (hReferenceIdeal := Cert.ReferenceIdeal.Gen.facts)
    (hPre_zero_history := Cert.Pre_zero_history.Gen.facts) := by
  intro m g m' g' hpre hagree
  refine ⟨fun c => Cert.KernelIdeal.Array.result (m ((c.tc : Thread Cert.KernelIdeal.nD Cert.KernelIdeal.τ).loc Cert.KernelIdeal.main_arg0)),
    Cert.KernelIdeal.Array.run m g, (θ_run _ _ _).mono (fun _ h c => ⟨(h c).1.trans ?_, (h c).2⟩) (Cert.ReferenceIdeal.Value.run m' g')⟩
  have hg : ∀ y, m' ((c.tc : Thread Cert.ReferenceIdeal.nD Cert.ReferenceIdeal.τ).loc Cert.ReferenceIdeal.main_arg1) y = (0 : EReal) := by
    intro y
    rw [(hagree c).2]
    exact Cert.Pre_zero_history.Read.zero _ _ (hpre c) y
  funext y
  obtain ⟨a, i, j, k, rfl⟩ : ∃ (a : Fin 32) (i : Fin 128) (j : Fin 128) (k : Fin 16), y = ix4 a i j k :=
    ⟨y 0, y 1, y 2, y 3, eq_ix4 y⟩
  refine (Cert.ReferenceIdeal.Histogram.apply m' c hg a i j k).trans ?_
  rw [(hagree c).1]
  rfl

/-- Everything the certificate claims. -/
theorem claim : Cert.Claim :=
  ⟨Cert.Kernel.Gen.facts, Cert.KernelIdeal.Gen.facts, Cert.ReferenceIdeal.Gen.facts, Cert.Pre_zero_history.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    IdealRules.named_const.statement Cert.KernelIdeal.κ "half_momentum" .f32 0x3D4CCCCD#32 ((1 / 20 : ℝ) : EReal) rfl,
    algebraic⟩

end Cert.Proof

end
